-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_seven_bits [hPre_ids_seven_bits : Cert.Pre_ids_seven_bits.Facts] (m : (ℓ : Loc Cert.KernelIdeal.nD Cert.KernelIdeal.τ Cert.KernelIdeal.sig) → Buf (Elt Ideal) ℓ) : Prop :=
  ∀ c : Dev Cert.KernelIdeal.nD,
    (Cert.Pre_ids_seven_bits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_seven_bits [hPre_ids_seven_bits : Cert.Pre_ids_seven_bits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_seven_bits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ids_seven_bits [hKernelIdeal : Cert.KernelIdeal.Facts] [hPre_ids_seven_bits : Cert.Pre_ids_seven_bits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_seven_bits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_seven_bits [hReferenceIdeal : Cert.ReferenceIdeal.Facts] [hPre_ids_seven_bits : Cert.Pre_ids_seven_bits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_seven_bits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ids_seven_bits [hKernelIdeal : Cert.KernelIdeal.Facts] [hReferenceIdeal : Cert.ReferenceIdeal.Facts] [hPre_ids_seven_bits : Cert.Pre_ids_seven_bits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_seven_bits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_seven_bits : Cert.Pre_ids_seven_bits.Facts),
    quiescent_Kernel (hKernel := hKernel)
    ∧ quiescent_KernelIdeal (hKernelIdeal := hKernelIdeal)
    ∧ quiescent_KernelIdeal_pre_ids_seven_bits (hKernelIdeal := hKernelIdeal) (hPre_ids_seven_bits := hPre_ids_seven_bits)
    ∧ quiescent_ReferenceIdeal (hReferenceIdeal := hReferenceIdeal)
    ∧ quiescent_ReferenceIdeal_pre_ids_seven_bits (hReferenceIdeal := hReferenceIdeal) (hPre_ids_seven_bits := hPre_ids_seven_bits)
    ∧ preserves_Kernel_KernelIdeal
    ∧ algebraic_KernelIdeal_ReferenceIdeal_pre_ids_seven_bits (hKernelIdeal := hKernelIdeal) (hReferenceIdeal := hReferenceIdeal) (hPre_ids_seven_bits := hPre_ids_seven_bits)
-- ==== Pre_ids_seven_bits.lean ====
abbrev S1x8192x1024 : Shape := ⟨3, ![1, 8192, 1024]⟩
abbrev S1x2048x1024 : Shape := ⟨3, ![1, 2048, 1024]⟩
abbrev S8192 : Shape := ⟨1, ![8192]⟩
abbrev S2048 : Shape := ⟨1, ![2048]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1x8192x1024 .f32) (main_arg1 : FVec F S1x2048x1024 .f32) (main_arg2 : IVec S8192 32) (main_arg3 : IVec S2048 32) : IVec S_ 1 :=
  let main_c : IVec S_ 32 := constantI S_ 32 0#32
  let main_v0 : IVec S8192 32 := broadcastInDim S8192 ![] bcast_S_S8192 main_c
  let main_v1 : IVec S8192 1 := cmpi .sge main_arg2 main_v0
  let main_c_0 : IVec S_ 32 := constantI S_ 32 128#32
  let main_v2 : IVec S8192 32 := broadcastInDim S8192 ![] bcast_S_S8192 main_c_0
  let main_v3 : IVec S8192 1 := cmpi .slt main_arg2 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  let main_c_2 : IVec S_ 32 := constantI S_ 32 0#32
  let main_v6 : IVec S2048 32 := broadcastInDim S2048 ![] bcast_S_S2048 main_c_2
  let main_v7 : IVec S2048 1 := cmpi .sge main_arg3 main_v6
  let main_c_3 : IVec S_ 32 := constantI S_ 32 128#32
  let main_v8 : IVec S2048 32 := broadcastInDim S2048 ![] bcast_S_S2048 main_c_3
  let main_v9 : IVec S2048 1 := cmpi .slt main_arg3 main_v8
  let main_v10 : IVec S2048 1 := andi main_v7 main_v9
  let main_c_4 : IVec S_ 1 := constantI S_ 1 1#1
  let main_v11 : IVec S_ 1 := (fun x v => Host.reduce IntOp.andi x v reducesTo_S2048_S_d0 h_S_) main_v10 main_c_4
  let main_v12 : IVec S_ 1 := andi main_v5 main_v11
  main_v12
-- ==== Kernel.lean ====
abbrev S1x8192x1024 : Shape := ⟨3, ![1, 8192, 1024]⟩
abbrev S1x2048x1024 : Shape := ⟨3, ![1, 2048, 1024]⟩
abbrev S8192 : Shape := ⟨1, ![8192]⟩
abbrev S2048 : Shape := ⟨1, ![2048]⟩
abbrev S2048x4 : Shape := ⟨2, ![2048, 4]⟩
abbrev S2048x1 : Shape := ⟨2, ![2048, 1]⟩
abbrev S_ : Shape := ⟨0, ![]⟩
abbrev S1x8192 : Shape := ⟨2, ![1, 8192]⟩
abbrev S1x2048 : Shape := ⟨2, ![1, 2048]⟩
abbrev S8192x8192 : Shape := ⟨2, ![8192, 8192]⟩
abbrev S8192x2048 : Shape := ⟨2, ![8192, 2048]⟩
abbrev S1x512x1024 : Shape := ⟨3, ![1, 512, 1024]⟩
abbrev S1x128x1024 : Shape := ⟨3, ![1, 128, 1024]⟩
abbrev S128x1 : Shape := ⟨2, ![128, 1]⟩
abbrev S512x8192 : Shape := ⟨2, ![512, 8192]⟩
abbrev S512x2048 : Shape := ⟨2, ![512, 2048]⟩
abbrev S128x8192 : Shape := ⟨2, ![128, 8192]⟩
abbrev S128x2048 : Shape := ⟨2, ![128, 2048]⟩

abbrev nBuf : Space → Nat
  | .hbm => 30
  | .vmem => 16
  | .smem => 0
  | _ => 0

abbrev bufTy : (tb : Table) → Fin (tcTables nBuf tb) → BufTy
  | .hbm, ⟨0, _⟩ => ⟨S1x8192x1024, .f32⟩
  | .hbm, ⟨1, _⟩ => ⟨S1x2048x1024, .f32⟩
  | .hbm, ⟨2, _⟩ => ⟨S8192, .i32⟩
  | .hbm, ⟨3, _⟩ => ⟨S2048, .i32⟩
  | .hbm, ⟨4, _⟩ => ⟨S8192, .i8⟩
  | .hbm, ⟨5, _⟩ => ⟨S2048x4, .i8⟩
  | .hbm, ⟨6, _⟩ => ⟨S2048, .i32⟩
  | .hbm, ⟨7, _⟩ => ⟨S2048x1, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S1x8192, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S1x2048, .i32⟩
  | .hbm, ⟨18, _⟩ => ⟨S1x8192x1024, .f32⟩
  | .hbm, ⟨19, _⟩ => ⟨S1x2048x1024, .f32⟩
  | .hbm, ⟨20, _⟩ => ⟨S8192x8192, .i8⟩
  | .hbm, ⟨21, _⟩ => ⟨S8192x2048, .i8⟩
  | .hbm, ⟨22, _⟩ => ⟨S_, .i8⟩
  | .hbm, ⟨23, _⟩ => ⟨S8192x8192, .i8⟩
  | .hbm, ⟨24, _⟩ => ⟨S8192x8192, .i1⟩
  | .hbm, ⟨25, _⟩ => ⟨S8192x8192, .i1⟩
  | .hbm, ⟨26, _⟩ => ⟨S_, .i8⟩
  | .hbm, ⟨27, _⟩ => ⟨S8192x2048, .i8⟩
  | .hbm, ⟨28, _⟩ => ⟨S8192x2048, .i1⟩
  | .hbm, ⟨29, _⟩ => ⟨S8192x2048, .i1⟩
  | .local _ .vmem, ⟨0, _⟩ => ⟨S1x512x1024, .f32⟩
  | .local _ .vmem, ⟨1, _⟩ => ⟨S1x512x1024, .f32⟩
  | .local _ .vmem, ⟨2, _⟩ => ⟨S1x128x1024, .f32⟩
  | .local _ .vmem, ⟨3, _⟩ => ⟨S1x128x1024, .f32⟩
  | .local _ .vmem, ⟨4, _⟩ => ⟨S128x1, .i32⟩
  | .local _ .vmem, ⟨5, _⟩ => ⟨S128x1, .i32⟩
  | .local _ .vmem, ⟨6, _⟩ => ⟨S1x8192, .i32⟩
  | .local _ .vmem, ⟨7, _⟩ => ⟨S1x2048, .i32⟩
  | .local _ .vmem, ⟨8, _⟩ => ⟨S1x512x1024, .f32⟩
  | .local _ .vmem, ⟨9, _⟩ => ⟨S1x512x1024, .f32⟩
  | .local _ .vmem, ⟨10, _⟩ => ⟨S1x128x1024, .f32⟩
  | .local _ .vmem, ⟨11, _⟩ => ⟨S1x128x1024, .f32⟩
  | .local _ .vmem, ⟨12, _⟩ => ⟨S512x8192, .i8⟩
  | .local _ .vmem, ⟨13, _⟩ => ⟨S512x8192, .i8⟩
  | .local _ .vmem, ⟨14, _⟩ => ⟨S512x2048, .i8⟩
  | .local _ .vmem, ⟨15, _⟩ => ⟨S512x2048, .i8⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x8192 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1x8192x1024 : Shape := ⟨3, ![1, 8192, 1024]⟩
abbrev S1x2048x1024 : Shape := ⟨3, ![1, 2048, 1024]⟩
abbrev S8192 : Shape := ⟨1, ![8192]⟩
abbrev S2048 : Shape := ⟨1, ![2048]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S1x2048 : Shape := ⟨2, ![1, 2048]⟩
abbrev S8192x2048 : Shape := ⟨2, ![8192, 2048]⟩

abbrev nBuf : Space → Nat
  | .hbm => 50
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x2048x1024, .f32⟩
  | .hbm, ⟨2, _⟩ => ⟨S8192, .i32⟩
  | .hbm, ⟨3, _⟩ => ⟨S2048, .i32⟩
  | .hbm, ⟨4, _⟩ => ⟨S_, .i32⟩
  | .hbm, ⟨5, _⟩ => ⟨S_, .f32⟩
  | .hbm, ⟨6, _⟩ => ⟨S1x8192x1024, .f32⟩
  | .hbm, ⟨7, _⟩ => ⟨S_, .i32⟩
  | .hbm, ⟨8, _⟩ => ⟨S_, .f32⟩
  | .hbm, ⟨9, _⟩ => ⟨S1x2048x1024, .f32⟩
  | .hbm, ⟨10, _⟩ => ⟨S_, .i32⟩
  | .hbm, ⟨11, _⟩ => ⟨S_, .i32⟩
  | .hbm, ⟨12, _⟩ => ⟨S8192, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S8192x1, .i32⟩
  | .hbm, ⟨17, _⟩ => ⟨S_, .i32⟩
  | .hbm, ⟨18, _⟩ => ⟨S8192x1, .i32⟩
  | .hbm, ⟨19, _⟩ => ⟨S8192x1, .i1⟩
  | .hbm, ⟨20, _⟩ => ⟨S1x8192, .i32⟩
  | .hbm, ⟨21, _⟩ => ⟨S_, .i32⟩
  | .hbm, ⟨22, _⟩ => ⟨S1x8192, .i32⟩
  | .hbm, ⟨23, _⟩ => ⟨S1x8192, .i1⟩
  | .hbm, ⟨24, _⟩ => ⟨S8192x8192, .i1⟩
  | .hbm, ⟨25, _⟩ => ⟨S8192x8192, .i1⟩
  | .hbm, ⟨26, _⟩ => ⟨S8192x8192, .i1⟩
  | .hbm, ⟨27, _⟩ => ⟨S8192x1, .i32⟩
  | .hbm, ⟨28, _⟩ => ⟨S1x8192, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .i1⟩
  | .hbm, ⟨33, _⟩ => ⟨S8192x1, .i32⟩
  | .hbm, ⟨34, _⟩ => ⟨S_, .i32⟩
  | .hbm, ⟨35, _⟩ => ⟨S8192x1, .i32⟩
  | .hbm, ⟨36, _⟩ => ⟨S8192x1, .i1⟩
  | .hbm, ⟨37, _⟩ => ⟨S1x2048, .i32⟩
  | .hbm, ⟨38, _⟩ => ⟨S_, .i32⟩
  | .hbm, ⟨39, _⟩ => ⟨S1x2048, .i32⟩
  | .hbm, ⟨40, _⟩ => ⟨S1x2048, .i1⟩
  | .hbm, ⟨41, _⟩ => ⟨S8192x2048, .i1⟩
  | .hbm, ⟨42, _⟩ => ⟨S8192x2048, .i1⟩
  | .hbm, ⟨43, _⟩ => ⟨S8192x2048, .i1⟩
  | .hbm, ⟨44, _⟩ => ⟨S8192x1, .i32⟩
  | .hbm, ⟨45, _⟩ => ⟨S1x2048, .i32⟩
  | .hbm, ⟨46, _⟩ => ⟨S8192x2048, .i32⟩
  | .hbm, ⟨47, _⟩ => ⟨S8192x2048, .i32⟩
  | .hbm, ⟨48, _⟩ => ⟨S8192x2048, .i1⟩
  | .hbm, ⟨49, _⟩ => ⟨S8192x2048, .i1⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4 : Ref sig .tc := ⟨.hbm, 16, rfl⟩
abbrev main_c_3 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Proof.Words.lean ====
/-
  The arithmetic of the packed comparison: four bytes below 128 in one 32-bit word, compared at once with a byte
  below 128 repeated four times. No program occurs here.
-/
module

public import Idealize.ShloMosaic.PureOps
public import Idealize.ShloMosaic.Lib.BitcastPair

@[expose] public section

namespace Cert.Words

open Idealize.ShloMosaic

/-- The four results of the packed comparison of `w` with `u`, one per byte of the word. -/
def packedEq (w u : BitVec 32) : BitVec 32 := ((2155905152#32 - (w ^^^ u)) >>> 7) &&& 16843009#32

/-- The packed comparison as the kernel's operations on one pair of words. -/
theorem packedEq_ops (w u : BitVec 32) : IntOp.andi (IntOp.shrui .vector (IntOp.subi 2155905152#32 (IntOp.xori w u)) 7#32)
    16843009#32 = packedEq w u := by
  unfold IntOp.shrui
  rw [if_pos (by decide)]
  rfl

/-- Byte `k` of the packed comparison. -/
def maskByte (w u : BitVec 32) (k : Nat) : BitVec 8 := (packedEq w u).extractLsb' (8 * k) 8

/-- A word of four bytes, byte 0 the lowest. -/
def four (a : Fin 4 → BitVec 8) : BitVec 32 := a 3 ++ (a 2 ++ (a 1 ++ a 0))

/-- The value of a word of four bytes. -/
theorem four_toNat (a : Fin 4 → BitVec 8) :
    (four a).toNat = (a 0).toNat + 256 * (a 1).toNat + 65536 * (a 2).toNat + 16777216 * (a 3).toNat := by
  have h0 := (a 0).isLt; have h1 := (a 1).isLt; have h2 := (a 2).isLt; have h3 := (a 3).isLt
  have e1 : (a 1 ++ a 0).toNat = (a 1).toNat * 2 ^ 8 + (a 0).toNat := by
    rw [BitVec.toNat_append, ← Nat.shiftLeft_add_eq_or_of_lt h0, Nat.shiftLeft_eq]
  have e2 : (a 2 ++ (a 1 ++ a 0)).toNat = (a 2).toNat * 2 ^ 16 + ((a 1).toNat * 2 ^ 8 + (a 0).toNat) := by
    rw [BitVec.toNat_append, ← Nat.shiftLeft_add_eq_or_of_lt (BitVec.isLt _), Nat.shiftLeft_eq, e1]
  unfold four
  rw [BitVec.toNat_append, ← Nat.shiftLeft_add_eq_or_of_lt (BitVec.isLt _), Nat.shiftLeft_eq, e2]
  omega

/-- Exclusive or of two words of four bytes goes byte by byte. -/
theorem four_xor (a b : Fin 4 → BitVec 8) : four a ^^^ four b = four fun k => a k ^^^ b k := by
  unfold four
  rw [BitVec.xor_append, BitVec.xor_append, BitVec.xor_append]

/-- Multiplying a byte by 0x01010101 repeats it four times. -/
theorem repeat_four (b : BitVec 32) (hb : b.toNat < 128) : b * 16843009#32 = four fun _ => b.setWidth 8 := by
  apply BitVec.eq_of_toNat_eq
  rw [four_toNat, BitVec.toNat_mul, BitVec.toNat_setWidth]
  simp only [BitVec.toNat_ofNat, Nat.reducePow, Nat.reduceMod]
  rw [Nat.mod_eq_of_lt (show b.toNat * 16843009 < 4294967296 by omega), Nat.mod_eq_of_lt (show b.toNat < 256 by omega)]
  omega

/-- A word is the four bytes whose bits it has. -/
theorem eq_four (w : BitVec 32) (a : Fin 4 → BitVec 8)
    (h : ∀ (q : Nat) (hq : q < 32), w.getLsbD q = (a ⟨q / 8, by omega⟩).getLsbD (q % 8)) : w = four a := by
  apply BitVec.eq_of_getLsbD_eq
  intro q hq
  rw [h q hq]
  unfold four
  rw [BitVec.getLsbD_append, BitVec.getLsbD_append, BitVec.getLsbD_append]
  by_cases h0 : q < 8
  · rw [if_pos (by omega), if_pos (by omega), if_pos h0]
    exact congrArg₂ (fun k n => (a k).getLsbD n) (Fin.ext (by show q / 8 = 0; omega)) (by omega)
  by_cases h1 : q < 16
  · rw [if_pos (by omega), if_pos (by omega), if_neg h0]
    exact congrArg₂ (fun k n => (a k).getLsbD n) (Fin.ext (by show q / 8 = 1; omega)) (by omega)
  by_cases h2 : q < 24
  · rw [if_pos (by omega), if_neg (by omega)]
    exact congrArg₂ (fun k n => (a k).getLsbD n) (Fin.ext (by show q / 8 = 2; omega)) (by omega)
  · rw [if_neg (by omega)]
    exact congrArg₂ (fun k n => (a k).getLsbD n) (Fin.ext (by show q / 8 = 3; omega)) (by omega)

/-- Bit 7 of each byte of 0x80808080 minus a word of bytes below 128: set exactly where the byte is zero, as no byte
    borrows from the next. -/
theorem sub_high_bit (x : Fin 4 → BitVec 8) (hx : ∀ k, (x k).toNat < 128) (k : Fin 4) :
    (2155905152#32 - four x).getLsbD (8 * k.val + 7) = decide ((x k).toNat = 0) := by
  have h0 := hx 0; have h1 := hx 1; have h2 := hx 2; have h3 := hx 3
  have e : (2155905152#32 - four x).toNat = (128 - (x 0).toNat) + 256 * (128 - (x 1).toNat)
      + 65536 * (128 - (x 2).toNat) + 16777216 * (128 - (x 3).toNat) := by
    rw [BitVec.toNat_sub, four_toNat]
    simp only [BitVec.toNat_ofNat]
    omega
  unfold BitVec.getLsbD
  rw [Nat.testBit_eq_decide_div_mod_eq, e, decide_eq_decide]
  match k with
  | 0 => show _ / 128 % 2 = 1 ↔ _; omega
  | 1 => show _ / 32768 % 2 = 1 ↔ _; omega
  | 2 => show _ / 8388608 % 2 = 1 ↔ _; omega
  | 3 => show _ / 2147483648 % 2 = 1 ↔ _; omega

/-- The mask 0x01010101 keeps the lowest bit of every byte. -/
theorem ones_bit (k : Fin 4) (i : Fin 8) : (16843009#32).getLsbD (8 * k.val + i.val) = decide (i.val = 0) := by
  revert k i; decide

/-- A byte of the packed comparison is nonzero exactly where the two bytes agree. -/
theorem maskByte_ne (a b : Fin 4 → BitVec 8) (ha : ∀ k, (a k).toNat < 128) (hb : ∀ k, (b k).toNat < 128) (k : Fin 4) :
    maskByte (four a) (four b) k.val ≠ 0#8 ↔ a k = b k := by
  have hx : ∀ k, (a k ^^^ b k).toNat < 128 := fun k => by
    rw [BitVec.toNat_xor]; exact Nat.xor_lt_two_pow (n := 7) (ha k) (hb k)
  have hbit : ∀ i : Fin 8, (maskByte (four a) (four b) k.val).getLsbD i.val
      = (decide (i.val = 0) && decide ((a k ^^^ b k).toNat = 0)) := fun i => by
    have hi := i.isLt
    unfold maskByte packedEq
    rw [BitVec.getLsbD_extractLsb', BitVec.getLsbD_and, ones_bit, BitVec.getLsbD_ushiftRight, four_xor]
    by_cases h : i.val = 0
    · rw [h, show 7 + (8 * k.val + 0) = 8 * k.val + 7 by omega, sub_high_bit _ hx k]; simp
    · simp [h]
  have hxz : (a k ^^^ b k).toNat = 0 ↔ a k = b k := by
    rw [← BitVec.xor_eq_zero_iff]
    exact ⟨fun h => BitVec.eq_of_toNat_eq (by simpa using h), fun h => by rw [h]; rfl⟩
  rw [← hxz]
  constructor
  · intro hne
    by_contra hc
    apply hne
    apply BitVec.eq_of_getLsbD_eq
    intro i hi
    rw [hbit ⟨i, hi⟩, decide_eq_false hc]; simp
  · intro h hz
    have := hbit 0
    rw [hz, decide_eq_true h] at this
    simp at this

/-- Two 32-bit numbers below 128 agree when their lowest bytes do. -/
theorem setWidth_inj (a b : BitVec 32) (ha : a.toNat < 128) (hb : b.toNat < 128) :
    a.setWidth 8 = b.setWidth 8 ↔ a = b := by
  refine ⟨fun h => BitVec.eq_of_toNat_eq ?_, fun h => by rw [h]⟩
  have := congrArg BitVec.toNat h
  rw [BitVec.toNat_setWidth, BitVec.toNat_setWidth] at this
  omega

/-- The comparison of the packed word with the repeated number, byte `k` tested against zero, is the comparison of
    number `k` with it. -/
theorem packed_cmp (w : BitVec 32) (a : Fin 4 → BitVec 32) (b : BitVec 32) (k : Fin 4)
    (hw : ∀ (q : Nat) (hq : q < 32), w.getLsbD q = ((a ⟨q / 8, by omega⟩).setWidth 8).getLsbD (q % 8))
    (ha : ∀ k, (a k).toNat < 128) (hb : b.toNat < 128) :
    IntOp.cmpi .ne (maskByte w (b * 16843009#32) k.val) 0#8 = IntOp.cmpi .eq (a k) b := by
  have hlow : ∀ x : BitVec 32, x.toNat < 128 → (x.setWidth 8).toNat < 128 := fun x hx => by
    rw [BitVec.toNat_setWidth]; omega
  have key := maskByte_ne (fun k => (a k).setWidth 8) (fun _ => b.setWidth 8) (fun k => hlow _ (ha k)) (fun _ => hlow _ hb) k
  rw [eq_four w (fun k => (a k).setWidth 8) hw, repeat_four b hb]
  show BitVec.ofBool (_ != _) = BitVec.ofBool (_ == _)
  congr 1
  rw [Bool.eq_iff_iff, bne_iff_ne, beq_iff_eq]
  exact key.trans (setWidth_inj _ _ (ha k) hb)

/-- A 32-bit array read as bytes: result row `r` is byte `r % 4` of source row `r / 4` of the same column. -/
theorem bitcast_32_8 {s t : Shape} (x : s.Idx → BitVec 32) (h : s.Bitcasts 32 t 8) (j : t.Idx)
    (hp : ∀ a : Fin s.rank, a.val + 2 = s.rank → t.row j / 4 < s.size a) :
    bitcast t 8 x h j = (x (h.srcIdx j (t.row j / 4) hp)).extractLsb' (8 * (t.row j % 4)) 8 := by
  apply BitVec.eq_of_getLsbD_eq
  intro i hi
  rw [bitcast_getLsbD x h j i hi (by decide), BitVec.getLsbD_extractLsb', decide_eq_true hi, Bool.true_and,
    h.srcIdx_congr j (show (t.row j * 8 + i) / 32 = t.row j / 4 by omega) _ hp]
  congr 1
  omega

end Cert.Words

end
-- ==== Proof.Block.lean ====
/-
  One block of a mask, read at an index: the kernel's packed comparison of 128 words with a row of repeated ids, cut
  into bytes.
-/
module

public import proofs.«01_k».proof.Proof.Gen.KernelIdeal.Skeleton
public import proofs.«01_k».proof.Proof.Words
public import Idealize.ShloMosaic.Lib.Pipeline.Value
public import Idealize.ShloMosaic.Lib.Pointwise.Index

@[expose] public section

noncomputable section

namespace Cert.KernelIdeal.Masks

open Idealize.ShloMosaic Idealize.ShloMosaic.TcCoe Idealize.SL.Sem
open Cert.KernelIdeal Cert.KernelIdeal.Gen Cert.Words

/-- The kernel's chain of word operations over 128 packed words and one row of `n` repeated ids, cut into bytes: row `r`,
    column `j` is byte `r % 4` of the packed comparison of word `r / 4` with column `j`. -/
theorem packed_read {n : Nat} (x : IVec S128x1 32) (y : IVec ⟨2, ![1, n]⟩ 32)
    (hx : S128x1.Broadcasts ⟨2, ![128, n]⟩) (hy : (⟨2, ![1, n]⟩ : Shape).Broadcasts ⟨2, ![128, n]⟩)
    (hb : (⟨2, ![128, n]⟩ : Shape).Bitcasts 32 ⟨2, ![512, n]⟩ 8) (r : Fin 512) (j : Fin n) :
    bitcast ⟨2, ![512, n]⟩ 8 (andi (shrui (subi (broadcast ⟨2, ![128, n]⟩ 2155905152#32)
        (xori (broadcastTo ⟨2, ![128, n]⟩ x hx) (broadcastTo ⟨2, ![128, n]⟩ y hy))) (broadcast ⟨2, ![128, n]⟩ 7#32))
        (broadcast ⟨2, ![128, n]⟩ 16843009#32)) hb (ix2 r j)
      = maskByte (x (ix2 ⟨r.val / 4, by omega⟩ (0 : Fin 1))) (y (ix2 (0 : Fin 1) j)) (r.val % 4) := by
  have hp : ∀ a : Fin 2, a.val + 2 = 2 → (⟨2, ![512, n]⟩ : Shape).row (ix2 r j) / 4 < (⟨2, ![128, n]⟩ : Shape).size a := by
    intro a ha
    have e : a = 0 := Fin.ext (by show a.val = 0; omega)
    subst e
    show r.val / 4 < 128
    omega
  rw [bitcast_32_8 _ hb (ix2 r j) hp]
  have e : hb.srcIdx (ix2 r j) ((⟨2, ![512, n]⟩ : Shape).row (ix2 r j) / 4) hp = ix2 (⟨r.val / 4, by omega⟩ : Fin 128) j :=
    Shape.idx_ext₂ (hb.srcIdx_row _ _ hp 0 rfl) (hb.srcIdx_other _ _ hp 1 (show ¬ 1 + 2 = 2 by decide))
  rw [e]
  have ex : broadcastTo ⟨2, ![128, n]⟩ x hx (ix2 (⟨r.val / 4, by omega⟩ : Fin 128) j) = x (ix2 ⟨r.val / 4, by omega⟩ (0 : Fin 1)) :=
    broadcastTo_apply x hx _ _ (fun a => match a with | ⟨0, _⟩ => rfl | ⟨1, _⟩ => rfl)
  have ey : broadcastTo ⟨2, ![128, n]⟩ y hy (ix2 (⟨r.val / 4, by omega⟩ : Fin 128) j) = y (ix2 (0 : Fin 1) j) :=
    broadcastTo_apply y hy _ _ (fun a => match a with
      | ⟨0, _⟩ => rfl
      | ⟨1, _⟩ => by
        have hj := j.isLt
        show j.val = if n = 1 then 0 else j.val
        split <;> omega)
  show BitVec.extractLsb' (8 * (r.val % 4)) 8 (IntOp.andi (IntOp.shrui .vector (IntOp.subi 2155905152#32
    (IntOp.xori (broadcastTo ⟨2, ![128, n]⟩ x hx (ix2 (⟨r.val / 4, by omega⟩ : Fin 128) j))
      (broadcastTo ⟨2, ![128, n]⟩ y hy (ix2 (⟨r.val / 4, by omega⟩ : Fin 128) j)))) 7#32) 16843009#32) = _
  rw [ex, ey, packedEq_ops]
  rfl

variable {F : FTy → Type} [FloatOps F]

/-- The block of the first mask at row `r` and column `j`. -/
theorem pay3_apply (x : Vec F S128x1 .i32) (y : Vec F S1x8192 .i32) (r : Fin 512) (j : Fin 8192) :
    k0_pay3 x y (ix2 r j) = maskByte (x (ix2 ⟨r.val / 4, by omega⟩ (0 : Fin 1))) (y (ix2 (0 : Fin 1) j)) (r.val % 4) := by
  unfold k0_pay3 k0_pay2
  rw [shapeCast_self, shapeCast_self]
  exact packed_read x y _ _ _ r j

/-- The block of the second mask at row `r` and column `j`. -/
theorem pay4_apply (x : Vec F S128x1 .i32) (y : Vec F S1x2048 .i32) (r : Fin 512) (j : Fin 2048) :
    k0_pay1 (k0_pay4 x y) (ix2 r j)
      = maskByte (x (ix2 ⟨r.val / 4, by omega⟩ (0 : Fin 1))) (y (ix2 (0 : Fin 1) j)) (r.val % 4) := by
  unfold k0_pay1 k0_pay4 k0_pay2
  rw [shapeCast_self, shapeCast_self]
  exact packed_read x y _ _ _ r j

end Cert.KernelIdeal.Masks

end
-- ==== Proof.Arrays.lean ====
/-
  What the four result arrays of the kernel hold after its grid of 16 points: the two copies are the arguments, and the
  two byte masks are one function of the packed ids each, block by block.
-/
module

public import proofs.«01_k».proof.Proof.Block
public import proofs.«01_k».proof.Proof.Gen.KernelIdeal.Frame
public import Idealize.ShloMosaic.Lib.Pipeline.Value

@[expose] public section

noncomputable section

namespace Cert.KernelIdeal.Masks

open Idealize.ShloMosaic Idealize.ShloMosaic.TcCoe Idealize.SL.Sem
open Idealize.ShloMosaic.Pipeline (Dat)
open Cert.KernelIdeal Cert.KernelIdeal.Gen Cert.Words

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The two copies -/

/-- What a grid point writes back of the first result is its block of the first argument. -/
theorem flushed5 (c : Dev nD) (t : Fin cfg0.N) :
    (dats m 0 c).flushed 5 t = ((cfg0.win 5).blk t).view.read (Elt F) (V m c main_arg0) := by
  show (cfg0.win 5).cut (grid0.coords t) ((dats m 0 c).after 5 t) = _
  rw [after0_5]
  unfold out0_5
  rw [View.canon_unit_zero hz3, View.ld_unit_zero hz3]
  rfl

/-- What a grid point writes back of the second result is its block of the second argument. -/
theorem flushed6 (c : Dev nD) (t : Fin cfg0.N) :
    (dats m 0 c).flushed 6 t = ((cfg0.win 6).blk t).view.read (Elt F) (V m c main_arg1) := by
  show (cfg0.win 6).cut (grid0.coords t) ((dats m 0 c).after 6 t) = _
  rw [after0_6]
  unfold out0_6
  rw [View.canon_unit_zero hz3, View.ld_unit_zero hz3]
  rfl

/-- The position and size of the first result's block at each grid point. -/
theorem where5 : ∀ t : Fin grid0.N, win0_5.index t 0 * win0_5.size 0 = 0 ∧ win0_5.xsize (grid0.coords t) 0 = 1
    ∧ win0_5.index t 1 * win0_5.size 1 = t.val * 512 ∧ win0_5.xsize (grid0.coords t) 1 = 512
    ∧ win0_5.index t 2 * win0_5.size 2 = 0 ∧ win0_5.xsize (grid0.coords t) 2 = 1024 := by decide +kernel

/-- The position and size of the second result's block at each grid point. -/
theorem where6 : ∀ t : Fin grid0.N, win0_6.index t 0 * win0_6.size 0 = 0 ∧ win0_6.xsize (grid0.coords t) 0 = 1
    ∧ win0_6.index t 1 * win0_6.size 1 = t.val * 128 ∧ win0_6.xsize (grid0.coords t) 1 = 128
    ∧ win0_6.index t 2 * win0_6.size 2 = 0 ∧ win0_6.xsize (grid0.coords t) 2 = 1024 := by decide +kernel

/-- Row `i 1` of result 0 lies in the block of every grid point whose 512 rows hold it. -/
theorem mem5 (t : Fin cfg0.N) (i : S1x8192x1024.Idx) (h : t.val * 512 ≤ (i 1 : Nat) ∧ (i 1 : Nat) < t.val * 512 + 512) :
    i ∈ ((cfg0.win 5).blk t).view.set := by
  show i ∈ ((View.whole main_v12_0).slice (win0_5.rect t)).set
  rw [View.set_slice_whole, Rect.mem_set_unit]
  have h0 : (i 0 : Nat) < 1 := (i 0).isLt
  have h2 : (i 2 : Nat) < 1024 := (i 2).isLt
  have e := where5 t
  intro a
  match a with
  | ⟨0, _⟩ =>
    show win0_5.index t 0 * win0_5.size 0 ≤ (i 0 : Nat) ∧ (i 0 : Nat) < win0_5.index t 0 * win0_5.size 0 + win0_5.xsize (grid0.coords t) 0
    rw [e.1, e.2.1]; omega
  | ⟨1, _⟩ =>
    show win0_5.index t 1 * win0_5.size 1 ≤ (i 1 : Nat) ∧ (i 1 : Nat) < win0_5.index t 1 * win0_5.size 1 + win0_5.xsize (grid0.coords t) 1
    rw [e.2.2.1, e.2.2.2.1]; exact h
  | ⟨2, _⟩ =>
    show win0_5.index t 2 * win0_5.size 2 ≤ (i 2 : Nat) ∧ (i 2 : Nat) < win0_5.index t 2 * win0_5.size 2 + win0_5.xsize (grid0.coords t) 2
    rw [e.2.2.2.2.1, e.2.2.2.2.2]; omega

/-- Every index of result 0 lies in the block of some grid point. -/
theorem cover5 (i : S1x8192x1024.Idx) :
    ∃ t : Fin cfg0.N, (cfg0.win 5).flush t = true ∧ i ∈ ((cfg0.win 5).blk t).view.set := by
  have h1 : (i 1 : Nat) < 8192 := (i 1).isLt
  have hN : cfg0.N = 16 := N_0
  exact ⟨⟨(i 1 : Nat) / 512, by omega⟩, flush0_5 _, mem5 _ i (by dsimp only; omega)⟩

/-- Row `i 1` of result 1 lies in the block of every grid point whose 128 rows hold it. -/
theorem mem6 (t : Fin cfg0.N) (i : S1x2048x1024.Idx) (h : t.val * 128 ≤ (i 1 : Nat) ∧ (i 1 : Nat) < t.val * 128 + 128) :
    i ∈ ((cfg0.win 6).blk t).view.set := by
  show i ∈ ((View.whole main_v12_1).slice (win0_6.rect t)).set
  rw [View.set_slice_whole, Rect.mem_set_unit]
  have h0 : (i 0 : Nat) < 1 := (i 0).isLt
  have h2 : (i 2 : Nat) < 1024 := (i 2).isLt
  have e := where6 t
  intro a
  match a with
  | ⟨0, _⟩ =>
    show win0_6.index t 0 * win0_6.size 0 ≤ (i 0 : Nat) ∧ (i 0 : Nat) < win0_6.index t 0 * win0_6.size 0 + win0_6.xsize (grid0.coords t) 0
    rw [e.1, e.2.1]; omega
  | ⟨1, _⟩ =>
    show win0_6.index t 1 * win0_6.size 1 ≤ (i 1 : Nat) ∧ (i 1 : Nat) < win0_6.index t 1 * win0_6.size 1 + win0_6.xsize (grid0.coords t) 1
    rw [e.2.2.1, e.2.2.2.1]; exact h
  | ⟨2, _⟩ =>
    show win0_6.index t 2 * win0_6.size 2 ≤ (i 2 : Nat) ∧ (i 2 : Nat) < win0_6.index t 2 * win0_6.size 2 + win0_6.xsize (grid0.coords t) 2
    rw [e.2.2.2.2.1, e.2.2.2.2.2]; omega

/-- Every index of result 1 lies in the block of some grid point. -/
theorem cover6 (i : S1x2048x1024.Idx) :
    ∃ t : Fin cfg0.N, (cfg0.win 6).flush t = true ∧ i ∈ ((cfg0.win 6).blk t).view.set := by
  have h1 : (i 1 : Nat) < 2048 := (i 1).isLt
  have hN : cfg0.N = 16 := N_0
  exact ⟨⟨(i 1 : Nat) / 128, by omega⟩, flush0_6 _, mem6 _ i (by dsimp only; omega)⟩

/-- The first result is the first argument. -/
theorem final5 (c : Dev nD) : (dats m 0 c).arrAt 5 cfg0.N = m ((c : Thread nD τ).loc main_arg0) :=
  ((dats m 0 c).arrAt_eq_of_cover 5 (V m c main_arg0) (fun t _ => flushed5 m c t) cover5).trans (V_main_arg0 m c)

/-- The second result is the second argument. -/
theorem final6 (c : Dev nD) : (dats m 0 c).arrAt 6 cfg0.N = m ((c : Thread nD τ).loc main_arg1) :=
  ((dats m 0 c).arrAt_eq_of_cover 6 (V m c main_arg1) (fun t _ => flushed6 m c t) cover6).trans (V_main_arg1 m c)

/-! ## The two byte masks -/

/-- The first mask as one function of the packed row ids and the repeated row ids. -/
def mask1 (c : Dev nD) : Buf (Elt F) ((c : Thread nD τ).loc main_v12_2) := fun i : S8192x8192.Idx =>
  maskByte (V m c main_v3 (ix2 (⟨(i 0).val / 4, by have : (i 0).val < 8192 := (i 0).isLt; omega⟩ : Fin 2048) (0 : Fin 1)))
    (V m c main_v7 (ix2 (0 : Fin 1) (⟨(i 1).val, (i 1).isLt⟩ : Fin 8192))) ((i 0).val % 4)

/-- The second mask as one function of the packed row ids and the repeated column ids. -/
def mask2 (c : Dev nD) : Buf (Elt F) ((c : Thread nD τ).loc main_v12_3) := fun i : S8192x2048.Idx =>
  maskByte (V m c main_v3 (ix2 (⟨(i 0).val / 4, by have : (i 0).val < 8192 := (i 0).isLt; omega⟩ : Fin 2048) (0 : Fin 1)))
    (V m c main_v11 (ix2 (0 : Fin 1) (⟨(i 1).val, (i 1).isLt⟩ : Fin 2048))) ((i 0).val % 4)

/-- `mask1` at an index given by its two coordinates. -/
theorem mask1_at (c : Dev nD) (i : S8192x8192.Idx) (R : Nat) (j : Fin 8192) (h0 : (i 0).val = R) (h1 : (i 1).val = j.val)
    (hR : R < 8192) : mask1 m c i
      = maskByte (V m c main_v3 (ix2 (⟨R / 4, by omega⟩ : Fin 2048) (0 : Fin 1))) (V m c main_v7 (ix2 (0 : Fin 1) j)) (R % 4) := by
  subst h0
  have e : (⟨(i 1).val, (i 1).isLt⟩ : Fin 8192) = j := Fin.ext h1
  unfold mask1
  rw [e]

/-- `mask2` at an index given by its two coordinates. -/
theorem mask2_at (c : Dev nD) (i : S8192x2048.Idx) (R : Nat) (j : Fin 2048) (h0 : (i 0).val = R) (h1 : (i 1).val = j.val)
    (hR : R < 8192) : mask2 m c i
      = maskByte (V m c main_v3 (ix2 (⟨R / 4, by omega⟩ : Fin 2048) (0 : Fin 1))) (V m c main_v11 (ix2 (0 : Fin 1) j)) (R % 4) := by
  subst h0
  have e : (⟨(i 1).val, (i 1).isLt⟩ : Fin 2048) = j := Fin.ext h1
  unfold mask2
  rw [e]

/-- Where the blocks of the word arrays and of the masks begin at each grid point. -/
theorem starts : ∀ t : Fin grid0.N, (win0_2.index t 0 * win0_2.size 0 = t.val * 128 ∧ win0_2.index t 1 * win0_2.size 1 = 0)
    ∧ (win0_3.index t 0 * win0_3.size 0 = 0 ∧ win0_3.index t 1 * win0_3.size 1 = 0)
    ∧ (win0_4.index t 0 * win0_4.size 0 = 0 ∧ win0_4.index t 1 * win0_4.size 1 = 0)
    ∧ (win0_7.index t 0 * win0_7.size 0 = t.val * 512 ∧ win0_7.index t 1 * win0_7.size 1 = 0)
    ∧ (win0_8.index t 0 * win0_8.size 0 = t.val * 512 ∧ win0_8.index t 1 * win0_8.size 1 = 0) := by decide +kernel

/-- The sizes of the masks' blocks. -/
theorem sizes : ∀ t : Fin grid0.N, (win0_7.xsize (grid0.coords t) 0 = 512 ∧ win0_7.xsize (grid0.coords t) 1 = 8192)
    ∧ (win0_8.xsize (grid0.coords t) 0 = 512 ∧ win0_8.xsize (grid0.coords t) 1 = 2048) := by decide +kernel

/-- Word `r` of the packed ids' block at point `t` is word `128 t + r` of the array. -/
theorem iblk2_apply (c : Dev nD) (t : Fin cfg0.N) (r : Fin 128) (R : Fin 2048) (hR : R.val = t.val * 128 + r.val) :
    iblk m c 2 t (ix2 r (0 : Fin 1)) = V m c main_v3 (ix2 R (0 : Fin 1)) := by
  show V m c main_v3 ((win0_2.rect t).emb (ix2 r (0 : Fin 1))) = _
  refine congrArg _ (Shape.idx_ext₂ ?_ ?_)
  · rw [Pipeline.Window.rect_emb_val win0_2, (starts t).1.1]; exact hR.symm
  · rw [Pipeline.Window.rect_emb_val win0_2, (starts t).1.2]; rfl

/-- The repeated row ids are read whole at every point. -/
theorem iblk3_apply (c : Dev nD) (t : Fin cfg0.N) (j : Fin 8192) :
    iblk m c 3 t (ix2 (0 : Fin 1) j) = V m c main_v7 (ix2 (0 : Fin 1) j) := by
  show V m c main_v7 ((win0_3.rect t).emb (ix2 (0 : Fin 1) j)) = _
  refine congrArg _ (Shape.idx_ext₂ ?_ ?_)
  · rw [Pipeline.Window.rect_emb_val win0_3, (starts t).2.1.1]; rfl
  · rw [Pipeline.Window.rect_emb_val win0_3, (starts t).2.1.2]; exact Nat.zero_add _

/-- The repeated column ids are read whole at every point. -/
theorem iblk4_apply (c : Dev nD) (t : Fin cfg0.N) (j : Fin 2048) :
    iblk m c 4 t (ix2 (0 : Fin 1) j) = V m c main_v11 (ix2 (0 : Fin 1) j) := by
  show V m c main_v11 ((win0_4.rect t).emb (ix2 (0 : Fin 1) j)) = _
  refine congrArg _ (Shape.idx_ext₂ ?_ ?_)
  · rw [Pipeline.Window.rect_emb_val win0_4, (starts t).2.2.1.1]; rfl
  · rw [Pipeline.Window.rect_emb_val win0_4, (starts t).2.2.1.2]; exact Nat.zero_add _

/-- The kernel's block at point `t` of the first mask, at an index, is `mask1` there. -/
theorem block7 (c : Dev nD) (t : Fin cfg0.N) (r : Fin 512) (j : Fin 8192) :
    k0_pay3 (iblk m c 2 t) (iblk m c 3 t) (ix2 r j) = mask1 m c ((win0_7.rect t).emb (ix2 r j)) := by
  have ht : t.val < 16 := lt_of_lt_of_eq t.isLt N_0
  have e0 : (((win0_7.rect t).emb (ix2 r j)) 0).val = t.val * 512 + r.val := by
    rw [Pipeline.Window.rect_emb_val win0_7, (starts t).2.2.2.1.1]; rfl
  have e1 : (((win0_7.rect t).emb (ix2 r j)) 1).val = j.val := by
    rw [Pipeline.Window.rect_emb_val win0_7, (starts t).2.2.2.1.2]; exact Nat.zero_add _
  rw [pay3_apply, iblk2_apply m c t _ ⟨(t.val * 512 + r.val) / 4, by omega⟩ (by dsimp only; omega), iblk3_apply,
    show r.val % 4 = (t.val * 512 + r.val) % 4 by omega]
  exact (mask1_at m c _ _ _ e0 e1 (by omega)).symm

/-- What a grid point writes back of the first mask is its block of `mask1`. -/
theorem flushed7 (c : Dev nD) (t : Fin cfg0.N) :
    (dats m 0 c).flushed 7 t = ((cfg0.win 7).blk t).view.read (Elt F) (mask1 m c) := by
  show (cfg0.win 7).cut (grid0.coords t) ((dats m 0 c).after 7 t) = _
  rw [after0_7]
  unfold out0_7
  rw [View.canon_unit_zero hz2, View.ld_unit_zero hz2, View.ld_unit_zero hz2]
  funext y
  have e : y = ix2 (y 0 : Fin 512) (y 1 : Fin 8192) := eq_ix2 y
  rw [e]
  exact block7 m c t (y 0) (y 1)

/-- The kernel's block at point `t` of the second mask, at an index, is `mask2` there. -/
theorem block8 (c : Dev nD) (t : Fin cfg0.N) (r : Fin 512) (j : Fin 2048) :
    k0_pay1 (k0_pay4 (iblk m c 2 t) (iblk m c 4 t)) (ix2 r j) = mask2 m c ((win0_8.rect t).emb (ix2 r j)) := by
  have ht : t.val < 16 := lt_of_lt_of_eq t.isLt N_0
  have e0 : (((win0_8.rect t).emb (ix2 r j)) 0).val = t.val * 512 + r.val := by
    rw [Pipeline.Window.rect_emb_val win0_8, (starts t).2.2.2.2.1]; rfl
  have e1 : (((win0_8.rect t).emb (ix2 r j)) 1).val = j.val := by
    rw [Pipeline.Window.rect_emb_val win0_8, (starts t).2.2.2.2.2]; exact Nat.zero_add _
  rw [pay4_apply, iblk2_apply m c t _ ⟨(t.val * 512 + r.val) / 4, by omega⟩ (by dsimp only; omega), iblk4_apply,
    show r.val % 4 = (t.val * 512 + r.val) % 4 by omega]
  exact (mask2_at m c _ _ _ e0 e1 (by omega)).symm

/-- What a grid point writes back of the second mask is its block of `mask2`. -/
theorem flushed8 (c : Dev nD) (t : Fin cfg0.N) :
    (dats m 0 c).flushed 8 t = ((cfg0.win 8).blk t).view.read (Elt F) (mask2 m c) := by
  show (cfg0.win 8).cut (grid0.coords t) ((dats m 0 c).after 8 t) = _
  rw [after0_8]
  unfold out0_8
  rw [View.canon_unit_zero hz2, View.ld_unit_zero hz2, View.ld_unit_zero hz2]
  funext y
  have e : y = ix2 (y 0 : Fin 512) (y 1 : Fin 2048) := eq_ix2 y
  rw [e]
  exact block8 m c t (y 0) (y 1)

/-- An index of result 2 lies in the block of every grid point whose 512 rows hold it. -/
theorem mem7 (t : Fin cfg0.N) (i : S8192x8192.Idx) (h : t.val * 512 ≤ (i 0 : Nat) ∧ (i 0 : Nat) < t.val * 512 + 512) :
    i ∈ ((cfg0.win 7).blk t).view.set := by
  show i ∈ ((View.whole main_v12_2).slice (win0_7.rect t)).set
  rw [View.set_slice_whole, Rect.mem_set_unit]
  have h1 : (i 1 : Nat) < 8192 := (i 1).isLt
  have e := (starts t).2.2.2.1
  have s := (sizes t).1
  intro a
  match a with
  | ⟨0, _⟩ =>
    show win0_7.index t 0 * win0_7.size 0 ≤ (i 0 : Nat) ∧ (i 0 : Nat) < win0_7.index t 0 * win0_7.size 0 + win0_7.xsize (grid0.coords t) 0
    rw [e.1, s.1]; exact h
  | ⟨1, _⟩ =>
    show win0_7.index t 1 * win0_7.size 1 ≤ (i 1 : Nat) ∧ (i 1 : Nat) < win0_7.index t 1 * win0_7.size 1 + win0_7.xsize (grid0.coords t) 1
    rw [e.2, s.2]; omega

/-- Every index of result 2 lies in the block of some grid point. -/
theorem cover7 (i : S8192x8192.Idx) :
    ∃ t : Fin cfg0.N, (cfg0.win 7).flush t = true ∧ i ∈ ((cfg0.win 7).blk t).view.set := by
  have h0 : (i 0 : Nat) < 8192 := (i 0).isLt
  have hN : cfg0.N = 16 := N_0
  exact ⟨⟨(i 0 : Nat) / 512, by omega⟩, flush0_7 _, mem7 _ i (by dsimp only; omega)⟩

/-- An index of result 3 lies in the block of every grid point whose 512 rows hold it. -/
theorem mem8 (t : Fin cfg0.N) (i : S8192x2048.Idx) (h : t.val * 512 ≤ (i 0 : Nat) ∧ (i 0 : Nat) < t.val * 512 + 512) :
    i ∈ ((cfg0.win 8).blk t).view.set := by
  show i ∈ ((View.whole main_v12_3).slice (win0_8.rect t)).set
  rw [View.set_slice_whole, Rect.mem_set_unit]
  have h1 : (i 1 : Nat) < 2048 := (i 1).isLt
  have e := (starts t).2.2.2.2
  have s := (sizes t).2
  intro a
  match a with
  | ⟨0, _⟩ =>
    show win0_8.index t 0 * win0_8.size 0 ≤ (i 0 : Nat) ∧ (i 0 : Nat) < win0_8.index t 0 * win0_8.size 0 + win0_8.xsize (grid0.coords t) 0
    rw [e.1, s.1]; exact h
  | ⟨1, _⟩ =>
    show win0_8.index t 1 * win0_8.size 1 ≤ (i 1 : Nat) ∧ (i 1 : Nat) < win0_8.index t 1 * win0_8.size 1 + win0_8.xsize (grid0.coords t) 1
    rw [e.2, s.2]; omega

/-- Every index of result 3 lies in the block of some grid point. -/
theorem cover8 (i : S8192x2048.Idx) :
    ∃ t : Fin cfg0.N, (cfg0.win 8).flush t = true ∧ i ∈ ((cfg0.win 8).blk t).view.set := by
  have h0 : (i 0 : Nat) < 8192 := (i 0).isLt
  have hN : cfg0.N = 16 := N_0
  exact ⟨⟨(i 0 : Nat) / 512, by omega⟩, flush0_8 _, mem8 _ i (by dsimp only; omega)⟩

/-- The first byte mask after the grid. -/
theorem final7 (c : Dev nD) : (dats m 0 c).arrAt 7 cfg0.N = mask1 m c :=
  (dats m 0 c).arrAt_eq_of_cover 7 (mask1 m c) (fun t _ => flushed7 m c t) cover7

/-- The second byte mask after the grid. -/
theorem final8 (c : Dev nD) : (dats m 0 c).arrAt 8 cfg0.N = mask2 m c :=
  (dats m 0 c).arrAt_eq_of_cover 8 (mask2 m c) (fun t _ => flushed8 m c t) cover8

end Cert.KernelIdeal.Masks

end
-- ==== Proof.Inputs.lean ====
/-
  The three arrays the host prepares for the kernel, read at an index: four consecutive ids of `arg2`, truncated to a
  byte each, packed into a word; and every id of `arg2` and of `arg3` times 0x01010101.
-/
module

public import proofs.«01_k».proof.Proof.Gen.KernelIdeal.Frame
public import Idealize.ShloMosaic.Lib.Pipeline.Value
public import Idealize.ShloMosaic.Lib.BitcastConvert
public import Idealize.ShloMosaic.Lib.Pointwise.Reshape

@[expose] public section

noncomputable section

namespace Cert.KernelIdeal.Masks

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The ids of the rows, as launched. -/
abbrev sid (c : Dev nD) : IVec S8192 32 := m ((c : Thread nD τ).loc main_arg2)
/-- The ids of the columns of the second mask, as launched. -/
abbrev cid (c : Dev nD) : IVec S2048 32 := m ((c : Thread nD τ).loc main_arg3)

/-- The packed row ids are the host's chain of the row ids. -/
theorem packed_eq (c : Dev nD) : V m c main_v3
    = shapeCast S2048x1 (Host.bitcastConvertWiden S2048 32 (shapeCast S2048x4 (trunci 8 (sid m c) natLt_8_32)
        shapeCasts_S8192_S2048x4) splits_S2048_w32_S2048x4_w8) shapeCasts_S2048_S2048x1 := by
  show StableHlo.after hostOps0 _ (Proc.devRef .tc main_v3) = _
  after_results
  rfl

/-- The repeated row ids are the host's chain of the row ids. -/
theorem cols_eq (c : Dev nD) : V m c main_v7
    = shapeCast S1x8192 (muli (sid m c) (broadcastInDim S8192 ![] bcast_S_S8192 (constantI S_ 32 16843009#32)))
        shapeCasts_S8192_S1x8192 := by
  show StableHlo.after hostOps0 _ (Proc.devRef .tc main_v7) = _
  after_results
  rfl

/-- The repeated column ids are the host's chain of the column ids. -/
theorem cols2_eq (c : Dev nD) : V m c main_v11
    = shapeCast S1x2048 (muli (cid m c) (broadcastInDim S2048 ![] bcast_S_S2048 (constantI S_ 32 16843009#32)))
        shapeCasts_S2048_S1x2048 := by
  show StableHlo.after hostOps0 _ (Proc.devRef .tc main_v11) = _
  after_results
  rfl

/-- Bit `q` of packed word `r` is bit `q % 8` of the lowest byte of id `4 r + q / 8`. -/
theorem packed_bit (c : Dev nD) (r : Fin 2048) (q : Nat) (hq : q < 32) :
    (V m c main_v3 (ix2 r (0 : Fin 1))).getLsbD q
      = ((sid m c (ix1 ⟨4 * r.val + q / 8, by omega⟩)).setWidth 8).getLsbD (q % 8) := by
  rw [packed_eq, shapeCast_apply _ shapeCasts_S2048_S2048x1 (ix2 r (0 : Fin 1)) (ix1 r) (by
      rw [rowMajor_val1, rowMajor_val2 _ 1 rfl]; show r.val = r.val * 1 + 0; omega),
    Host.bitcastConvertWiden_getLsbD S2048 32 _ splits_S2048_w32_S2048x4_w8 (ix1 r) q hq]
  rw [shapeCast_apply _ shapeCasts_S8192_S2048x4 _ (ix1 (⟨4 * r.val + q / 8, by omega⟩ : Fin 8192)) (by
      rw [rowMajor_val1, rowMajor_val2 _ 4 rfl]
      show 4 * r.val + q / 8 = r.val * 4 + q / 8
      omega)]
  rfl

/-- Column `j` of the repeated row ids. -/
theorem cols_apply (c : Dev nD) (j : Fin 8192) : V m c main_v7 (ix2 (0 : Fin 1) j) = sid m c (ix1 j) * 16843009#32 := by
  rw [cols_eq, shapeCast_apply _ shapeCasts_S8192_S1x8192 (ix2 (0 : Fin 1) j) (ix1 j) (by
    rw [rowMajor_val1, rowMajor_val2 _ 8192 rfl]; show j.val = 0 * 8192 + j.val; omega)]
  rfl

/-- Column `j` of the repeated column ids. -/
theorem cols2_apply (c : Dev nD) (j : Fin 2048) : V m c main_v11 (ix2 (0 : Fin 1) j) = cid m c (ix1 j) * 16843009#32 := by
  rw [cols2_eq, shapeCast_apply _ shapeCasts_S2048_S1x2048 (ix2 (0 : Fin 1) j) (ix1 j) (by
    rw [rowMajor_val1, rowMajor_val2 _ 2048 rfl]; show j.val = 0 * 2048 + j.val; omega)]
  rfl

end Cert.KernelIdeal.Masks

end
-- ==== Proof.Ids.lean ====
/-
  Ids below 128: what the two bound tests say of one id, that such an id is not the padding value -1, and the mask of
  equal ids. No program occurs here.
-/
module

public import Idealize.ShloMosaic.Lib.WordCmp
public import Idealize.ShloMosaic.Lib.Affine
public import Idealize.ShloMosaic.Lib.Pointwise.Index

@[expose] public section

namespace Cert.Ids

open Idealize.ShloMosaic Idealize.ShloMosaic.WordCmp

/-- Which pairs of a row id and a column id agree. -/
def same {k n : Nat} (a : IVec ⟨1, ![k]⟩ 32) (b : IVec ⟨1, ![n]⟩ 32) : IVec ⟨2, ![k, n]⟩ 1 :=
  fun i => IntOp.cmpi .eq (a (ix1 (i 0))) (b (ix1 (i 1)))

/-- An id that passes both signed bound tests is below 128 as an unsigned word. -/
theorem below_of_tests (x : BitVec 32) (h : IntOp.andi (IntOp.cmpi .sge x 0#32) (IntOp.cmpi .slt x 128#32) = 1#1) :
    x.toNat < 128 := by
  obtain ⟨h0, h1⟩ := IntOp.andi_eq_one.1 h
  rw [cmpi_sge_eq, ofBool_decide_eq_one_iff] at h0
  rw [cmpi_slt_eq, ofBool_decide_eq_one_iff] at h1
  have e0 : (0#32).toInt = 0 := by decide
  have e1 : (128#32).toInt = 128 := by decide
  rw [e0] at h0
  rw [e1] at h1
  rw [BitVec.toInt_eq_toNat_cond] at h0 h1
  split at h0 <;> omega

/-- An id below 128 is not -1. -/
theorem not_padding (x : BitVec 32) (h : x.toNat < 128) : IntOp.cmpi .ne x 4294967295#32 = 1#1 := by
  rw [cmpi_ne_eq, ofBool_decide_eq_one_iff]
  rintro rfl
  exact absurd h (by decide)

/-- With a row id that is not padding, the reference's condition on a pair of ids is that they agree. -/
theorem pair_valid (e r c : BitVec 1) (h : r = 1#1) : IntOp.andi e (IntOp.ori r c) = e := by
  subst h
  revert e c
  decide

end Cert.Ids

end
-- ==== Proof.KernelRun.lean ====
/-
  The kernel's run, read: the two copies are the arguments, and each mask is the comparison of the ids, provided every
  id is below 128.
-/
module

public import proofs.«01_k».proof.Proof.Arrays
public import proofs.«01_k».proof.Proof.Inputs
public import proofs.«01_k».proof.Proof.Ids

@[expose] public section

noncomputable section

namespace Cert.KernelIdeal.Masks

open Idealize.ShloMosaic Idealize.ShloMosaic.TcCoe Idealize.SL.Sem
open Cert.KernelIdeal Cert.KernelIdeal.Gen Cert.Words Cert.Ids

variable {F : FTy → Type} [FloatOps F]
variable (m : (ℓ : Loc nD τ sig) → Buf (Elt F) ℓ) (ρ : Dev nD → PrngReg)

/-- Byte `R % 4` of the packed comparison of word `R / 4` with a repeated id, tested against zero, compares id `R` with
    that id. -/
theorem byte_cmp (c : Dev nD) (hs : ∀ i, (sid m c i).toNat < 128) (R : Fin 8192) (b : BitVec 32) (hb : b.toNat < 128) :
    IntOp.cmpi .ne (maskByte (V m c main_v3 (ix2 (⟨R.val / 4, by omega⟩ : Fin 2048) (0 : Fin 1))) (b * 16843009#32) (R.val % 4)) 0#8
      = IntOp.cmpi .eq (sid m c (ix1 R)) b := by
  have h := packed_cmp (V m c main_v3 (ix2 (⟨R.val / 4, by omega⟩ : Fin 2048) (0 : Fin 1)))
    (fun k => sid m c (ix1 (⟨4 * (R.val / 4) + k.val, by omega⟩ : Fin 8192))) b ⟨R.val % 4, by omega⟩
    (fun q hq => packed_bit m c _ q hq) (fun k => hs _) hb
  refine h.trans (congrArg (fun x => IntOp.cmpi .eq (sid m c (ix1 x)) b) (Fin.ext ?_))
  show 4 * (R.val / 4) + R.val % 4 = R.val
  omega

/-- The first byte mask tested against zero. -/
theorem mask1_cmp (c : Dev nD) (hs : ∀ i, (sid m c i).toNat < 128) :
    cmpi .ne (mask1 m c) (broadcastInDim S8192x8192 ![] bcast_S_S8192x8192 (constantI S_ 8 0#8)) = same (sid m c) (sid m c) := by
  funext i
  show IntOp.cmpi .ne (mask1 m c i) 0#8 = IntOp.cmpi .eq (sid m c (ix1 (i 0))) (sid m c (ix1 (i 1)))
  refine (congrArg (fun x => IntOp.cmpi .ne x 0#8) (mask1_at m c i (i 0).val (i 1) rfl rfl (i 0).isLt)).trans ?_
  refine Eq.trans ?_ (byte_cmp m c hs (i 0) _ (hs (ix1 (i 1))))
  exact congrArg (fun x => IntOp.cmpi .ne (maskByte _ x _) 0#8) (cols_apply m c (i 1))

/-- The second byte mask tested against zero. -/
theorem mask2_cmp (c : Dev nD) (hs : ∀ i, (sid m c i).toNat < 128) (hc : ∀ i, (cid m c i).toNat < 128) :
    cmpi .ne (mask2 m c) (broadcastInDim S8192x2048 ![] bcast_S_S8192x2048 (constantI S_ 8 0#8)) = same (sid m c) (cid m c) := by
  funext i
  show IntOp.cmpi .ne (mask2 m c i) 0#8 = IntOp.cmpi .eq (sid m c (ix1 (i 0))) (cid m c (ix1 (i 1)))
  refine (congrArg (fun x => IntOp.cmpi .ne x 0#8) (mask2_at m c i (i 0).val (i 1) rfl rfl (i 0).isLt)).trans ?_
  refine Eq.trans ?_ (byte_cmp m c hs (i 0) _ (hc (ix1 (i 1))))
  exact congrArg (fun x => IntOp.cmpi .ne (maskByte _ x _) 0#8) (cols2_apply m c (i 1))

/-- The windows' arrays are distinct. -/
theorem arr_distinct : Function.Injective (Pipeline.arrRef spec0) := by decide

/-- What the host lines after the grid leave in the third result. -/
theorem tail_v15 (c : Dev nD) : Pipeline.afterTail₀ cfgs (dats m) 0 (V0 m) [hostOps1] c main_v15
    = cmpi .ne (mask1 m c) (broadcastInDim S8192x8192 ![] bcast_S_S8192x8192 (constantI S_ 8 0#8)) := by
  have e := Pipeline.withArrays_arr spec0 arr_distinct c (V0 m c) (fun w => (dats m 0 c).arrAt w cfg0.N) 7
  unfold Pipeline.afterTail₀
  show StableHlo.after hostOps1 _ (Proc.devRef .tc main_v15) = _
  after_results
  rw [← final7 m c]
  exact congrArg (fun x => cmpi .ne x (broadcastInDim S8192x8192 ![] bcast_S_S8192x8192 (constantI S_ 8 0#8))) e

/-- What the host lines after the grid leave in the fourth result. -/
theorem tail_v18 (c : Dev nD) : Pipeline.afterTail₀ cfgs (dats m) 0 (V0 m) [hostOps1] c main_v18
    = cmpi .ne (mask2 m c) (broadcastInDim S8192x2048 ![] bcast_S_S8192x2048 (constantI S_ 8 0#8)) := by
  have e := Pipeline.withArrays_arr spec0 arr_distinct c (V0 m c) (fun w => (dats m 0 c).arrAt w cfg0.N) 8
  unfold Pipeline.afterTail₀
  show StableHlo.after hostOps1 _ (Proc.devRef .tc main_v18) = _
  after_results
  rw [← final8 m c]
  exact congrArg (fun x => cmpi .ne x (broadcastInDim S8192x2048 ![] bcast_S_S8192x2048 (constantI S_ 8 0#8))) e

/-- The kernel's run: the copies of the two arguments, the two comparisons of the ids, the arguments unchanged. -/
theorem run (hs : ∀ c i, (sid m c i).toNat < 128) (hc : ∀ c i, (cid m c i).toNat < 128) :
    θ_run defs (onTc (τ := τ) (main (F := F))) ⟨m, fun _ => 0, ρ⟩ fun r => ∀ c : Dev nD,
      r.2.mem ((c.tc : Thread nD τ).loc main_v12_0) = m ((c.tc : Thread nD τ).loc main_arg0)
      ∧ r.2.mem ((c.tc : Thread nD τ).loc main_v12_1) = m ((c.tc : Thread nD τ).loc main_arg1)
      ∧ r.2.mem ((c.tc : Thread nD τ).loc main_v15) = same (sid m c) (sid m c)
      ∧ r.2.mem ((c.tc : Thread nD τ).loc main_v18) = same (sid m c) (cid m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 5).trans (final5 m c), ((h c).1 6).trans (final6 m c),
      ((h c).2 main_v15 (Pipeline.mem_restRefs_of main_v15 (by decide) (by decide))).trans ((tail_v15 m c).trans (mask1_cmp m c (hs c))),
      ((h c).2 main_v18 (Pipeline.mem_restRefs_of main_v18 (by decide) (by decide))).trans ((tail_v18 m c).trans (mask2_cmp m c (hs c) (hc c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Masks

end
-- ==== Proof.Reference.lean ====
/-
  The reference's four results: its paddings have width zero, so two results are the arguments; its masks compare the
  ids, provided every row id is below 128.
-/
module

public import proofs.«01_k».proof.Proof.Gen.ReferenceIdeal.Run
public import proofs.«01_k».proof.Proof.Gen.ReferenceIdeal.Read
public import proofs.«01_k».proof.Proof.Ids
public import Idealize.ShloMosaic.Lib.KernelVsHost

@[expose] public section

noncomputable section

namespace Cert.ReferenceIdeal.Masks

open Idealize.ShloMosaic Idealize.ShloMosaic.TcCoe Idealize.SL.Sem
open Cert.ReferenceIdeal Cert.ReferenceIdeal.Gen Cert.ReferenceIdeal.Read Cert.Ids

/-- A padding of width zero on every side leaves the array unchanged. -/
theorem pad_none {s u : Shape} {α : Type} (z : Fin s.rank → Nat) (hz : ∀ a, z a = 0) (x : s.Idx → α) (v : u.Idx → α)
    (h : s.Pads z z z s) (hu : 0 < u.numel) : pad s z z z x v h hu = x := by
  funext j
  refine pad_apply_of_inside z z z x v h hu j j fun a => ?_
  rw [hz a]
  show (j a).val = 0 + (j a).val * (0 + 1)
  omega

variable {F : FTy → Type} [FloatOps F]

/-- The first result is the first argument. -/
theorem v0_eq (x0 : (⟨S1x8192x1024, .f32⟩ : BufTy).Contents (Elt F)) : val_main_v0 (F := F) x0 = x0 := by
  unfold val_main_v0
  exact pad_none (s := S1x8192x1024) ![0, 0, 0] (by decide) x0 _ _ _

/-- The second result is the second argument. -/
theorem v1_eq (x1 : (⟨S1x2048x1024, .f32⟩ : BufTy).Contents (Elt F)) : val_main_v1 (F := F) x1 = x1 := by
  unfold val_main_v1
  exact pad_none (s := S1x2048x1024) ![0, 0, 0] (by decide) x1 _ _ _

/-- The padded sequence ids are the sequence ids. -/
theorem v2_eq (x2 : (⟨S8192, .i32⟩ : BufTy).Contents (Elt F)) : val_main_v2 (F := F) x2 = x2 := by
  unfold val_main_v2
  exact pad_none (s := S8192) ![0] (by decide) x2 _ _ _

/-- The padded context ids are the context ids. -/
theorem v3_eq (x3 : (⟨S2048, .i32⟩ : BufTy).Contents (Elt F)) : val_main_v3 (F := F) x3 = x3 := by
  unfold val_main_v3
  exact pad_none (s := S2048) ![0] (by decide) x3 _ _ _

/-- The third result compares the sequence ids with themselves. -/
theorem v18_eq (x2 : (⟨S8192, .i32⟩ : BufTy).Contents (Elt F)) (h : ∀ i : S8192.Idx, (x2 i).toNat < 128) :
    val_main_v18 (F := F) x2 = same x2 x2 := by
  funext i
  rw [val_main_v18_apply, val_main_v12_apply, pair_valid]
  · rw [val_main_v17_apply, val_main_v15_apply, val_main_v13_apply, val_main_v16_apply, val_main_v14_apply, v2_eq]
    exact congrArg₂ (fun a b => IntOp.cmpi .eq (x2 a) (x2 b)) (eq_ix1 _) (eq_ix1 _)
  · rw [val_main_v10_apply, val_main_v6_apply, val_main_v4_apply, val_main_v5_apply, v2_eq]
    exact not_padding _ (h _)

/-- The fourth result compares the sequence ids with the context ids. -/
theorem v33_eq (x2 : (⟨S8192, .i32⟩ : BufTy).Contents (Elt F)) (x3 : (⟨S2048, .i32⟩ : BufTy).Contents (Elt F))
    (h : ∀ i : S8192.Idx, (x2 i).toNat < 128) : val_main_v33 (F := F) x2 x3 = same x2 x3 := by
  funext i
  rw [val_main_v33_apply, val_main_v27_apply, pair_valid]
  · rw [val_main_v32_apply, val_main_v30_apply, val_main_v28_apply, val_main_v31_apply, val_main_v29_apply, v2_eq, v3_eq]
    exact congrArg₂ (fun a b => IntOp.cmpi .eq (x2 a) (x3 b)) (eq_ix1 _) (eq_ix1 _)
  · rw [val_main_v25_apply, val_main_v21_apply, val_main_v19_apply, val_main_v20_apply, v2_eq]
    exact not_padding _ (h _)

variable (m : (ℓ : Loc nD τ sig) → Buf (Elt F) ℓ) (ρ : Dev nD → PrngReg)

/-- The reference's run: the two arguments, the two comparisons of the ids, the arguments unchanged. -/
theorem run (hs : ∀ (c : Dev nD) (i : S8192.Idx), ((m ((c.tc : Thread nD τ).loc main_arg2) : IVec S8192 32) i).toNat < 128) :
    θ_run defs (onTc (τ := τ) (main (F := F))) ⟨m, fun _ => 0, ρ⟩ fun r => ∀ c : Dev nD,
      r.2.mem ((c.tc : Thread nD τ).loc main_v0) = m ((c.tc : Thread nD τ).loc main_arg0)
      ∧ r.2.mem ((c.tc : Thread nD τ).loc main_v1) = m ((c.tc : Thread nD τ).loc main_arg1)
      ∧ r.2.mem ((c.tc : Thread nD τ).loc main_v18)
        = same (m ((c.tc : Thread nD τ).loc main_arg2) : IVec S8192 32) (m ((c.tc : Thread nD τ).loc main_arg2) : IVec S8192 32)
      ∧ r.2.mem ((c.tc : Thread nD τ).loc main_v33)
        = same (m ((c.tc : Thread nD τ).loc main_arg2) : IVec S8192 32) (m ((c.tc : Thread nD τ).loc main_arg3) : IVec S2048 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v0_eq _).trans (v0_eq _)),
      (h c).2.1.trans ((val_main_v1_eq _).trans (v1_eq _)),
      (h c).2.2.1.trans ((val_main_v18_eq _).trans (v18_eq _ (hs c))),
      (h c).2.2.2.1.trans ((val_main_v33_eq _ _).trans (v33_eq _ _ (hs c))), (h c).2.2.2.2⟩)
    (Value.run m ρ)

end Cert.ReferenceIdeal.Masks

end
-- ==== Proof.Bounds.lean ====
/-
  The precondition read: every id of both arrays is below 128.
-/
module

public import proofs.«01_k».proof.Proof.Gen.Pre_ids_seven_bits
public import proofs.«01_k».proof.Proof.Ids
public import Idealize.ShloMosaic.Lib.ReduceAll

@[expose] public section

namespace Cert.Pre_ids_seven_bits.Bounds

open Idealize.ShloMosaic Cert.Pre_ids_seven_bits Cert.Pre_ids_seven_bits.Facts

variable [hF : Cert.Pre_ids_seven_bits.Facts] {F : FTy → Type} [FloatOps F]

/-- A rank-0 array has one index. -/
theorem idx_single : Subsingleton S_.Idx := ⟨fun _ _ => funext fun a => a.elim0⟩

/-- Under the precondition every sequence id and every context id is below 128. -/
theorem ids_below (a0 : FVec F S1x8192x1024 .f32) (a1 : FVec F S1x2048x1024 .f32) (a2 : IVec S8192 32) (a3 : IVec S2048 32)
    (h : fn a0 a1 a2 a3 = fun _ => 1#1) : (∀ i, (a2 i).toNat < 128) ∧ ∀ i, (a3 i).toNat < 128 := by
  haveI := idx_single
  obtain ⟨h2, h3⟩ := IntOp.andi_eq_one.1 (congrFun h (fun a => a.elim0))
  exact ⟨fun i => Ids.below_of_tests _ (Host.reduce_andi_all _ _ reducesTo_S8192_S_d0 h_S_ _ h2 i),
    fun i => Ids.below_of_tests _ (Host.reduce_andi_all _ _ reducesTo_S2048_S_d0 h_S_ _ h3 i)⟩

end Cert.Pre_ids_seven_bits.Bounds

end
-- ==== Proof.Equation.lean ====
/-
  The kernel and the reference give the same four results.
-/
module

public import proofs.«01_k».proof.Defs
public import proofs.«01_k».proof.Proof.KernelRun
public import proofs.«01_k».proof.Proof.Reference
public import proofs.«01_k».proof.Proof.Bounds
public import Idealize.ShloMosaic.Lib.Quiescent

@[expose] public section

noncomputable section

namespace Cert.Equation

open Idealize.ShloMosaic Idealize.SL.Sem

variable [hK : Cert.KernelIdeal.Facts] [hR : Cert.ReferenceIdeal.Facts] [hP : Cert.Pre_ids_seven_bits.Facts]

/-- The reference runs, leaves its arguments unchanged, and ends with every semaphore counter at zero. -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3))
        ∧ r.2.sem = fun _ => 0 :=
  (θ_run Cert.ReferenceIdeal.defs _ _).mono
    (fun r h => ⟨fun c => (h c).2.2.2.2, sem_eq_zero_of_no_sems (by decide) r.2⟩)
    (Cert.ReferenceIdeal.Value.run (F := Ideal) m g)

/-- With every id below 128 the kernel's four results are the reference's: the two arrays unchanged, and the two masks
    of equal ids. -/
theorem algebraic : Cert.algebraic_KernelIdeal_ReferenceIdeal_pre_ids_seven_bits := by
  intro m g m' g' hpre hagree
  have hb := fun c => Cert.Pre_ids_seven_bits.Bounds.ids_below _ _ _ _ (hpre c)
  refine ⟨fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg1),
    fun c => Ids.same (Cert.KernelIdeal.Masks.sid m c) (Cert.KernelIdeal.Masks.sid m c),
    fun c => Ids.same (Cert.KernelIdeal.Masks.sid m c) (Cert.KernelIdeal.Masks.cid m c),
    Cert.KernelIdeal.Masks.run m g (fun c => (hb c).1) (fun c => (hb c).2), ?_⟩
  refine (θ_run Cert.ReferenceIdeal.defs _ _).mono (fun r h c => ?_)
    (Cert.ReferenceIdeal.Masks.run m' g' fun c i => by rw [(hagree c).2.2.1]; exact (hb c).1 i)
  obtain ⟨a0, a1, a2, a3⟩ := hagree c
  obtain ⟨r0, r1, r2, r3, hargs⟩ := h c
  refine ⟨r0.trans a0, r1.trans a1, r2.trans ?_, r3.trans ?_, hargs⟩
  · rw [a2]
  · rw [a2, a3]

end Cert.Equation

end
-- ==== Proof.lean ====
/-
  The proof of `Cert.Claim`: the kernel at the machine's floats, the kernel at the ideal floats and the reference each
  run, leave their arguments unchanged and end with every semaphore counter at zero; the ideal kernel is the kernel's own
  text; and with every id below 128 the ideal kernel's four results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_ids_seven_bits
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of this directory, in the order of `Cert.Claim`. -/
theorem claim : Cert.Claim :=
  ⟨Cert.Kernel.Gen.facts, Cert.KernelIdeal.Gen.facts, Cert.ReferenceIdeal.Gen.facts, Cert.Pre_ids_seven_bits.Gen.facts,
    fun m g _ => Cert.Kernel.Gen.frame m g,
    fun m g _ => Cert.KernelIdeal.Gen.frame m g,
    fun m g _ => Cert.KernelIdeal.Gen.frame m g,
    fun m g _ => Cert.Equation.reference_quiescent m g,
    fun m g _ => Cert.Equation.reference_quiescent m g,
    trivial,
    Cert.Equation.algebraic⟩

end Cert.Proof

end
